-- ==== Defs.lean ====
def Pre_Kernel [hPre_chars : Cert.Pre_chars.Facts] (m : (ℓ : Loc Cert.Kernel.nD Cert.Kernel.τ Cert.Kernel.sig) → Buf (Elt Bits) ℓ) : Prop :=
  ∀ c : Dev Cert.Kernel.nD,
    (Cert.Pre_chars.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_chars : Cert.Pre_chars.Facts] (m : (ℓ : Loc Cert.KernelIdeal.nD Cert.KernelIdeal.τ Cert.KernelIdeal.sig) → Buf (Elt Ideal) ℓ) : Prop :=
  ∀ c : Dev Cert.KernelIdeal.nD,
    (Cert.Pre_chars.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_chars : Cert.Pre_chars.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chars.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_chars : Cert.Pre_chars.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_chars : Cert.Pre_chars.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_chars : Cert.Pre_chars.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_chars : Cert.Pre_chars.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_chars : Cert.Pre_chars.Facts),
    quiescent_Kernel (hKernel := hKernel) (hPre_chars := hPre_chars)
    ∧ quiescent_KernelIdeal (hKernelIdeal := hKernelIdeal) (hPre_chars := hPre_chars)
    ∧ quiescent_ReferenceIdeal (hReferenceIdeal := hReferenceIdeal) (hPre_chars := hPre_chars)
    ∧ preserves_Kernel_KernelIdeal
    ∧ algebraic_KernelIdeal_ReferenceIdeal (hKernelIdeal := hKernelIdeal) (hReferenceIdeal := hReferenceIdeal) (hPre_chars := hPre_chars)
-- ==== Pre_chars.lean ====
abbrev S64x256x16 : Shape := ⟨3, ![64, 256, 16]⟩
abbrev S64 : Shape := ⟨1, ![64]⟩
abbrev S1 : Shape := ⟨1, ![1]⟩
abbrev S_ : Shape := ⟨0, ![]⟩

class Facts : Prop where
  bcast_S_S64x256x16 : S_.BroadcastsInDim S64x256x16 (![] : Fin 0 → Fin S64x256x16.rank)
  reducesTo_S64x256x16_S_d0_1_2 : S64x256x16.ReducesTo [0, 1, 2] S_
  h_S_ : 0 < S_.numel

variable [Facts]

def fn {F : FTy → Type} [FloatOps F] (main_arg0 : IVec S64x256x16 32) (main_arg1 : IVec S64 32) (main_arg2 : FVec F S1 .f32) : IVec S_ 1 :=
  let main_c : IVec S_ 32 := constantI S_ 32 0#32
  let main_v0 : IVec S64x256x16 32 := broadcastInDim S64x256x16 ![] bcast_S_S64x256x16 main_c
  let main_v1 : IVec S64x256x16 1 := cmpi .sge main_arg0 main_v0
  let main_c_0 : IVec S_ 32 := constantI S_ 32 128#32
  let main_v2 : IVec S64x256x16 32 := broadcastInDim S64x256x16 ![] bcast_S_S64x256x16 main_c_0
  let main_v3 : IVec S64x256x16 1 := cmpi .slt main_arg0 main_v2
  let main_v4 : IVec S64x256x16 1 := andi main_v1 main_v3
  let main_c_1 : IVec S_ 1 := constantI S_ 1 1#1
  let main_v5 : IVec S_ 1 := (fun x v => Host.reduce IntOp.andi x v reducesTo_S64x256x16_S_d0_1_2 h_S_) main_v4 main_c_1
  main_v5
-- ==== Kernel.lean ====
abbrev S64x256x16 : Shape := ⟨3, ![64, 256, 16]⟩
abbrev S64 : Shape := ⟨1, ![64]⟩
abbrev S1 : Shape := ⟨1, ![1]⟩
abbrev S_ : Shape := ⟨0, ![]⟩
abbrev S16 : Shape := ⟨1, ![16]⟩
abbrev S16384x16 : Shape := ⟨2, ![16384, 16]⟩
abbrev S16384x128 : Shape := ⟨2, ![16384, 128]⟩
abbrev S512x16 : Shape := ⟨2, ![512, 16]⟩
abbrev S512x128 : Shape := ⟨2, ![512, 128]⟩
abbrev S1x16 : Shape := ⟨2, ![1, 16]⟩
abbrev S64x256x128 : Shape := ⟨3, ![64, 256, 128]⟩

abbrev nBuf : Table → Nat
  | .hbm => 16
  | .local .scVector .vmem => 3
  | _ => 0

abbrev bufTy : (tb : Table) → Fin (nBuf tb) → BufTy
  | .hbm, ⟨0, _⟩ => ⟨S64x256x16, .i32⟩
  | .hbm, ⟨1, _⟩ => ⟨S64, .i32⟩
  | .hbm, ⟨2, _⟩ => ⟨S1, .f32⟩
  | .hbm, ⟨3, _⟩ => ⟨S_, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S16384x16, .i32⟩
  | .hbm, ⟨14, _⟩ => ⟨S16384x128, .f32⟩
  | .hbm, ⟨15, _⟩ => ⟨S64x256x128, .f32⟩
  | .local .scVector .vmem, ⟨0, _⟩ => ⟨S512x16, .i32⟩
  | .local .scVector .vmem, ⟨1, _⟩ => ⟨S16, .f32⟩
  | .local .scVector .vmem, ⟨2, _⟩ => ⟨S512x128, .f32⟩
  | _, _ => ⟨S64x256x16, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v8_scv : Ref sig .scVector := ⟨.hbm, 13, rfl⟩
abbrev main_v7_scv : Ref sig .scVector := ⟨.hbm, 12, rfl⟩
abbrev main_v9_scv : Ref sig .scVector := ⟨.hbm, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r0 : BitVec 32 := 0#32
  ![v2.toNat, 0]
@[reducible] def k0_t1_loop : Scf.Loop 32 :=
  let c0_i32_0 : BitVec 32 := 0#32
  let c512_i32_1 : BitVec 32 := 512#32
  let v5 : BitVec 32 := Scalar.addi c0_i32_0 c512_i32_1
  let c1_i32 : BitVec 32 := 1#32
  ⟨c0_i32_0, v5, c1_i32⟩
def k0_off2 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let v6 : Index := Scalar.indexCast arg8
  let c0_3 : Index := 0#32
  ![v6.toNat, 0]
def k0_off3 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let v8 : Index := Scalar.indexCast arg8
  let c16 : Index := 16#32
  ![v8.toNat, 16]
def k0_off4 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let v10 : Index := Scalar.indexCast arg8
  let c32 : Index := 32#32
  ![v10.toNat, 32]
def k0_off5 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let v12 : Index := Scalar.indexCast arg8
  let c48 : Index := 48#32
  ![v12.toNat, 48]
def k0_off6 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let v14 : Index := Scalar.indexCast arg8
  let c64 : Index := 64#32
  ![v14.toNat, 64]
def k0_off7 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let v16 : Index := Scalar.indexCast arg8
  let c80 : Index := 80#32
  ![v16.toNat, 80]
def k0_off8 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let v18 : Index := Scalar.indexCast arg8
  let c96 : Index := 96#32
  ![v18.toNat, 96]
def k0_off9 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let v20 : Index := Scalar.indexCast arg8
  let c112 : Index := 112#32
  ![v20.toNat, 112]
def k0_off10 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let v22 : Index := Scalar.indexCast arg8
  let c0_4 : Index := 0#32
  ![v22.toNat, 0]

def k0_chk1 (v23 : IVec S16 32) (v24 : IVec S16 32) : Prop :=
  (∀ a x, ((![v24, v23] : Fin 2 → IVec S16 32) a x).toNat < S512x128.size a)
theorem k0_idx1_inb : ∀ (v23 : IVec S16 32) (v24 : IVec S16 32) (k0_hw1 : k0_chk1 v23 v24), ∀ a x, ((![v24, v23] : Fin 2 → IVec S16 32) a x).toNat < S512x128.size a := fun v23 v24 k0_hw1 => k0_hw1
def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r2 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x256x16 : Shape := ⟨3, ![64, 256, 16]⟩
abbrev S64 : Shape := ⟨1, ![64]⟩
abbrev S1 : Shape := ⟨1, ![1]⟩
abbrev S_ : Shape := ⟨0, ![]⟩
abbrev S16 : Shape := ⟨1, ![16]⟩
abbrev S64x1x1 : Shape := ⟨3, ![64, 1, 1]⟩
abbrev S256 : Shape := ⟨1, ![256]⟩
abbrev S1x256x1 : Shape := ⟨3, ![1, 256, 1]⟩
abbrev S64x256x128 : Shape := ⟨3, ![64, 256, 128]⟩
abbrev S64x256x16x1 : Shape := ⟨4, ![64, 256, 16, 1]⟩
abbrev S64x256x16x3 : Shape := ⟨4, ![64, 256, 16, 3]⟩

abbrev nBuf : Space → Nat
  | .hbm => 48
  | .vmem => 0
  | .smem => 0
  | _ => 0

abbrev bufTy : (tb : Table) → Fin (tcTables nBuf tb) → BufTy
  | .hbm, ⟨0, _⟩ => ⟨S64x256x16, .i32⟩
  | .hbm, ⟨1, _⟩ => ⟨S64, .i32⟩
  | .hbm, ⟨2, _⟩ => ⟨S1, .f32⟩
  | .hbm, ⟨3, _⟩ => ⟨S_, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S64x256x16, .f32⟩
  | .hbm, ⟨14, _⟩ => ⟨S64, .i32⟩
  | .hbm, ⟨15, _⟩ => ⟨S64x1x1, .i32⟩
  | .hbm, ⟨16, _⟩ => ⟨S256, .i32⟩
  | .hbm, ⟨17, _⟩ => ⟨S1x256x1, .i32⟩
  | .hbm, ⟨18, _⟩ => ⟨S_, .f32⟩
  | .hbm, ⟨19, _⟩ => ⟨S64x256x128, .f32⟩
  | .hbm, ⟨20, _⟩ => ⟨S_, .i32⟩
  | .hbm, ⟨21, _⟩ => ⟨S64x1x1, .i32⟩
  | .hbm, ⟨22, _⟩ => ⟨S64x1x1, .i1⟩
  | .hbm, ⟨23, _⟩ => ⟨S_, .i32⟩
  | .hbm, ⟨24, _⟩ => ⟨S64x1x1, .i32⟩
  | .hbm, ⟨25, _⟩ => ⟨S64x1x1, .i32⟩
  | .hbm, ⟨26, _⟩ => ⟨S64x1x1, .i32⟩
  | .hbm, ⟨27, _⟩ => ⟨S_, .i32⟩
  | .hbm, ⟨28, _⟩ => ⟨S1x256x1, .i32⟩
  | .hbm, ⟨29, _⟩ => ⟨S1x256x1, .i1⟩
  | .hbm, ⟨30, _⟩ => ⟨S_, .i32⟩
  | .hbm, ⟨31, _⟩ => ⟨S1x256x1, .i32⟩
  | .hbm, ⟨32, _⟩ => ⟨S1x256x1, .i32⟩
  | .hbm, ⟨33, _⟩ => ⟨S1x256x1, .i32⟩
  | .hbm, ⟨34, _⟩ => ⟨S_, .i32⟩
  | .hbm, ⟨35, _⟩ => ⟨S64x256x16, .i32⟩
  | .hbm, ⟨36, _⟩ => ⟨S64x256x16, .i1⟩
  | .hbm, ⟨37, _⟩ => ⟨S_, .i32⟩
  | .hbm, ⟨38, _⟩ => ⟨S64x256x16, .i32⟩
  | .hbm, ⟨39, _⟩ => ⟨S64x256x16, .i32⟩
  | .hbm, ⟨40, _⟩ => ⟨S64x256x16, .i32⟩
  | .hbm, ⟨41, _⟩ => ⟨S64x256x16, .i32⟩
  | .hbm, ⟨42, _⟩ => ⟨S64x256x16, .i32⟩
  | .hbm, ⟨43, _⟩ => ⟨S64x256x16x1, .i32⟩
  | .hbm, ⟨44, _⟩ => ⟨S64x256x16x1, .i32⟩
  | .hbm, ⟨45, _⟩ => ⟨S64x256x16x1, .i32⟩
  | .hbm, ⟨46, _⟩ => ⟨S64x256x16x3, .i32⟩
  | .hbm, ⟨47, _⟩ => ⟨S64x256x128, .f32⟩
  | _, _ => ⟨S64x256x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Proof.Values.lean ====
/-
  What one tile's work comes to, as plain functions: the vector of one word (`wordRow`: at each character, the powers of
  the lanes that name it added in the lanes' order onto zero), the whole table of words (`table`), and the indexed store
  read at one index (`storeIdx_apply`).
-/
module

public import proofs.«01_k».proof.Defs
public import Idealize.ShloMosaic.Lib.SparseCore.Ops
public import Idealize.ShloMosaic.Lib.VecWindow
public import Idealize.ShloMosaic.Lib.ValueIdxCore

@[expose] public section

noncomputable section

namespace Cert.Proof.Fofe

open Cert.KernelIdeal
open Idealize.ShloMosaic

variable {F : FTy → Type} [FloatOps F]

/-- A lane of the sixteen-lane vectors, as their index. -/
abbrev lane (k : Fin 16) : S16.Idx := Shape.ofLane (d := ![16]) k

/-- The vector of one word at character `c`: the lanes in order, each whose character is `c` adding its power, from zero. -/
def wordRow (p : S16.Idx → F .f32) (w : S16.Idx → BitVec 32) (c : ℕ) : F .f32 :=
  (List.finRange 16).foldl (fun y k => if (w (lane k)).toNat = c then FloatOps.idxAddf y (p (lane k)) else y)
    (Scalar.ofBits .f32 0x00000000#32)

/-- Row `r` of a table of words, as a vector of lanes. -/
def rowOf {n : ℕ} (ids : (⟨2, ![n, 16]⟩ : Shape).Idx → BitVec 32) (r : Fin n) : S16.Idx → BitVec 32 := fun l => ids (ValueIdx.ix2 r (l 0))

/-- The vectors of all the words of a table. -/
def table {n : ℕ} (p : S16.Idx → F .f32) (ids : (⟨2, ![n, 16]⟩ : Shape).Idx → BitVec 32) : (⟨2, ![n, 128]⟩ : Shape).Idx → F .f32 :=
  fun ι => wordRow p (rowOf ids (ι 0)) (ι 1).val

/-- An adding indexed store with every lane set, read at one index: the lanes that name the index add their values, in order. -/
theorem storeIdx_apply {s : Shape} {e : EltTy} {d : Fin 1 → ℕ} (f : Vec F s e) (idxs : Fin s.rank → IVec ⟨1, d⟩ 32) (v : Vec F ⟨1, d⟩ e)
    (h : ∀ a x, (idxs a x).toNat < s.size a) (ι : s.Idx) :
    storeIdx f idxs v (fun _ => 1#1) true h ι
      = (List.finRange (d 0)).foldl (fun y k => if ∀ a, (ι a).val = (idxs a (Shape.ofLane k)).toNat then Elt.idxAdd e y (v (Shape.ofLane k)) else y) (f ι) := by
  unfold storeIdx
  generalize List.finRange (d 0) = L
  induction L generalizing f with
  | nil => rfl
  | cons k L ih =>
    rw [List.foldl_cons, List.foldl_cons, ih]
    congr 1
    dsimp only
    rw [if_pos (show (1#1 : BitVec 1) = 1 from rfl)]
    have hi : ∀ a, (idxAt idxs h (Shape.ofLane k) a).val = (idxs a (Shape.ofLane k)).toNat := fun _ => rfl
    simp only [hi, if_true]
    by_cases hc : ∀ a, (ι a).val = (idxs a (Shape.ofLane k)).toNat
    · rw [if_pos hc, if_pos hc]
      have e1 : idxAt idxs h (Shape.ofLane k) = ι := funext fun a => Fin.ext ((hi a).trans (hc a).symm)
      rw [e1]
    · rw [if_neg hc, if_neg hc]

end Cert.Proof.Fofe

end
-- ==== Proof.Setup.lean ====
/-
  The launch of the word-vector kernel as the launch theorem sees it: the program's tables, what the handshakes carry,
  and the pieces of the three arrays a tile holds. Tile `(c, s)` is tile `w = 2 * s + c` of 32. It takes block `w` of 512
  words (of `%8`), a read share of the powers (of `%7`), and block `w` of 512 rows of the result (of `%9`).
-/
module

public import proofs.«01_k».proof.Defs
public import proofs.«01_k».proof.Proof.Values
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Fofe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program's tables -/

/-- The labels below the launch's own. -/
abbrev ΛP : Labels := Pipeline.Sig Λ₀ (Fin 0) fun p => (pcfgs (F := F) p).Adm
/-- The program's one SparseCore call. -/
abbrev K : SparseCore.Cfg τ sig (ΛP (F := F)) 1 := sc (F := F)
theorem nSub_zero : (K (F := F)).nSub 0 = 16 := rfl
theorem nCore_zero : (K (F := F)).nCore 0 = 2 := rfl
/-- The bodies the tiles run. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are four different ones, none of them scoped, and no shared buffer is a sequencer's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds and the copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and a tile's pieces of them -/

/-- The words, the powers and the result, as locations of device `d`. -/
abbrev wLoc (d : Dev nD) : Loc nD τ sig := (SparseCore.T d).loc main_v8
abbrev pLoc (d : Dev nD) : Loc nD τ sig := (SparseCore.T d).loc main_v7
abbrev oLoc (d : Dev nD) : Loc nD τ sig := (SparseCore.T d).loc main_v9

abbrev wV : Memref sig .scVector .hbm S16384x16 .i32 := Memref.whole main_v8_scv
abbrev pV : Memref sig .scVector .hbm S16 .f32 := Memref.whole main_v7_scv
abbrev oV : Memref sig .scVector .hbm S16384x128 .f32 := Memref.whole main_v9_scv
/-- A tile's scratches: its words, the powers, its rows of the result. -/
abbrev sW : Memref sig .scVector .vmem S512x16 .i32 := Memref.whole cc0_scratch0
abbrev sP : Memref sig .scVector .vmem S16 .f32 := Memref.whole cc0_scratch1
abbrev sO : Memref sig .scVector .vmem S512x128 .f32 := Memref.whole cc0_scratch2

theorem hdivW : 32 ∣ S16384x16.size 0 := ⟨512, rfl⟩
theorem hdivO : 32 ∣ S16384x128.size 0 := ⟨512, rfl⟩
/-- Block `w` of the words, and of the result's rows. -/
abbrev wBlk (w : Fin 32) : Rect S16384x16 := Rect.part (s := S16384x16) (a₀ := 0) hdivW w
abbrev oBlk (w : Fin 32) : Rect S16384x128 := Rect.part (s := S16384x128) (a₀ := 0) hdivO w
abbrev wSet (w : Fin 32) : Finset S16384x16.Idx := (wV.view.slice (wBlk w)).set
abbrev oSet (w : Fin 32) : Finset S16384x128.Idx := (oV.view.slice (oBlk w)).set
/-- The read share of the powers tile `w` takes. -/
abbrev pShare (w : Fin 32) : PosShare TreeShare := Transfers.dealOf fullShare Finset.univ w

/-- The tile that subcore `s` of core `c` is. -/
def wid (c : Fin 2) (s : Fin 16) : Fin 32 := ⟨2 * s.val + c.val, by omega⟩

/-- The contents the call finds: the words, the powers, and what the result holds before it. -/
structure Args (F : FTy → Type) where
  ids : (d : Dev nD) → Buf (Elt F) (wLoc d)
  pw : (d : Dev nD) → Buf (Elt F) (pLoc d)
  old : (d : Dev nD) → Buf (Elt F) (oLoc d)

/-- Every word's characters are the vocabulary's. -/
def Args.OK (A : Args F) : Prop := ∀ (d : Dev nD) (ι : S16384x16.Idx), (show BitVec 32 from A.ids d ι).toNat < 128

variable [FloatOps F]

/-- The vectors of all the words: what the call leaves in the result. -/
def Args.new (A : Args F) (d : Dev nD) : Buf (Elt F) (oLoc d) := table (n := 16384) (A.pw d) (A.ids d)

variable (A : Args F)

/-- What tile `w` is handed. -/
def tileIn (d : Dev nD) (w : Fin 32) : sProp 𝕄 :=
  iprop((wLoc d ↦[wSet w]{fullShare} A.ids d) ∗ (pLoc d ↦{pShare w} A.pw d) ∗ oLoc d ↦[oSet w]{fullShare} A.old d)
/-- What tile `w` hands back: the same, its block of the result now its words' vectors. -/
def tileOut (d : Dev nD) (w : Fin 32) : sProp 𝕄 :=
  iprop((wLoc d ↦[wSet w]{fullShare} A.ids d) ∗ (pLoc d ↦{pShare w} A.pw d) ∗ oLoc d ↦[oSet w]{fullShare} A.new d)

instance tileIn_storable (d : Dev nD) (w : Fin 32) : BI.Storable (upEmb : UEmb _ 𝕄) (tileIn A d w) := by
  unfold tileIn; infer_instance
instance tileOut_storable (d : Dev nD) (w : Fin 32) : BI.Storable (upEmb : UEmb _ 𝕄) (tileOut A d w) := by
  unfold tileOut; infer_instance

/-- A core takes its sixteen tiles' pieces and brings them back. -/
def P : (K (F := F)).Pay (nD := nD) (Val := Elt F) (Name := ℕ) (U := UU) where
  st := fun q d c => match q with | 0 => bigSep Finset.univ fun s : Fin 16 => tileIn A d (wid (Fin.cast nCore_zero c) s)
  dn := fun q d c => match q with | 0 => bigSep Finset.univ fun s : Fin 16 => tileOut A d (wid (Fin.cast nCore_zero c) s)
  go := fun q d c i => match q with | 0 => tileIn A d (wid (Fin.cast nCore_zero c) (Fin.cast nSub_zero i))
  td := fun q d c i => match q with | 0 => tileOut A d (wid (Fin.cast nCore_zero c) (Fin.cast nSub_zero i))
  x := fun _ _ => iprop(emp)

instance P_storable : (P A).IsStorable where
  st q d c := match q with
    | 0 => (inferInstance : BI.Storable (upEmb : UEmb _ 𝕄) (bigSep Finset.univ fun s : Fin 16 => tileIn A d (wid (Fin.cast nCore_zero c) s)))
  dn q d c := match q with
    | 0 => (inferInstance : BI.Storable (upEmb : UEmb _ 𝕄) (bigSep Finset.univ fun s : Fin 16 => tileOut A d (wid (Fin.cast nCore_zero c) s)))
  go q d c i := match q with | 0 => tileIn_storable A d _
  td q d c i := match q with | 0 => tileOut_storable A d _

end Cert.Proof.Fofe

end
-- ==== Proof.Tile.lean ====
/-
  One tile's run: the words and the powers fetched, the loop over the 512 rows, the rows written out.
-/
module

public import proofs.«01_k».proof.Proof.Setup
public import Idealize.ShloMosaic.Lib.Pipeline.Value

@[expose] public section

noncomputable section

namespace Cert.Proof.Fofe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The number of the tile at grid coordinates `L`. -/
abbrev widL (L : grid0.Coords) : Fin 32 := wid (Fin.cast bound_zero (L 0)) (Fin.cast bound_one (L 1))
theorem widL_val (L : grid0.Coords) : (widL L).val = 2 * (L 1).val + (L 0).val := rfl
/-- The thread that runs it. -/
abbrev thr (d : Dev nD) (L : grid0.Coords) : Thread nD τ := V d (cV L) (jV L)

/-! ## The tile's pieces as the body spells them -/

abbrev wRectK (L : grid0.Coords) : Rect S16384x16 := Rect.unit (s := S16384x16) (k0_off1 L) S512x16.size (k0_off1_inb L)
abbrev oRectK (L : grid0.Coords) : Rect S16384x128 := Rect.unit (s := S16384x128) (k0_off11 L) S512x128.size (k0_off11_inb L)
abbrev wK (L : grid0.Coords) : Memref sig .scVector .hbm S512x16 .i32 := wV.slice (wRectK L) (fun _ => rfl)
abbrev oK (L : grid0.Coords) : Memref sig .scVector .hbm S512x128 .f32 := oV.slice (oRectK L) (fun _ => rfl)

theorem wRectK_eq : wRectK L = wBlk (widL L) := by
  unfold wRectK wBlk Rect.part Rect.block
  congr 1 <;> funext a
  · rw [k0_off1_eq]
    match a with
    | 0 => have h := widL_val L; simp [Shape.partIx, Shape.partSize, -Fin.val_cast]; rw [h]; omega
    | 1 => simp [Shape.partIx, Shape.partSize]
  · match a with
    | 0 => simp [Shape.partSize]
    | 1 => simp [Shape.partSize]
theorem oRectK_eq : oRectK L = oBlk (widL L) := by
  unfold oRectK oBlk Rect.part Rect.block
  congr 1 <;> funext a
  · rw [k0_off11_eq]
    match a with
    | 0 => have h := widL_val L; simp [Shape.partIx, Shape.partSize, -Fin.val_cast]; rw [h]; omega
    | 1 => simp [Shape.partIx, Shape.partSize]
  · match a with
    | 0 => simp [Shape.partSize]
    | 1 => simp [Shape.partSize]

theorem set_wK : (wK L).view.set = wSet (widL L) := by
  show (wV.view.slice (wRectK L)).set = (wV.view.slice (wBlk (widL L))).set
  exact wRectK_eq L ▸ rfl
theorem set_oK : (oK L).view.set = oSet (widL L) := by
  show (oV.view.slice (oRectK L)).set = (oV.view.slice (oBlk (widL L))).set
  exact oRectK_eq L ▸ rfl

theorem pts_wK (f : Buf (Elt F) (wLoc d)) :
    ((wK L).view.loc (thr d L) ↦[(wK L).view.set]{fullShare} f : sProp 𝕄) = wLoc d ↦[wSet (widL L)]{fullShare} f := by
  rw [set_wK]
theorem pts_oK (f : Buf (Elt F) (oLoc d)) :
    ((oK L).view.loc (thr d L) ↦[(oK L).view.set]{fullShare} f : sProp 𝕄) = oLoc d ↦[oSet (widL L)]{fullShare} f := by
  rw [set_oK]
theorem pts_pV (q : PosShare TreeShare) (f : Buf (Elt F) (pLoc d)) :
    (pV.view.loc (thr d L) ↦[pV.view.set]{q} f : sProp 𝕄) = pLoc d ↦{q} f := by
  simp only [Memref.view_whole, View.set_whole]
theorem pts_sW (f : Buf (Elt F) ((thr d L).loc cc0_scratch0)) :
    (sW.view.loc (thr d L) ↦{fullShare} f : sProp 𝕄) = (thr d L).loc cc0_scratch0 ↦{fullShare} f := rfl
theorem pts_sP (f : Buf (Elt F) ((thr d L).loc cc0_scratch1)) :
    (sP.view.loc (thr d L) ↦{fullShare} f : sProp 𝕄) = (thr d L).loc cc0_scratch1 ↦{fullShare} f := rfl
theorem pts_sO (f : Buf (Elt F) ((thr d L).loc cc0_scratch2)) :
    (sO.view.loc (thr d L) ↦{fullShare} f : sProp 𝕄) = (thr d L).loc cc0_scratch2 ↦{fullShare} f := rfl

/-- The row scratch as the indexed store names it. -/
theorem pts_sOA (f : Buf (Elt F) ((thr d L).loc cc0_scratch2)) :
    ((sO.access (.whole S512x128)).loc (thr d L) ↦[(sO.access (.whole S512x128)).set]{fullShare} f : sProp 𝕄)
      = sO.view.loc (thr d L) ↦{fullShare} f := by
  have h : (sO.access (.whole S512x128)).set = Finset.univ := Memref.set_access_whole cc0_scratch2
  exact congrArg (fun S => ((sO.view.loc (thr d L) ↦[S]{fullShare} f : sProp 𝕄))) h

/-! ## The tile's own cells and buffers -/

/-- The cells of the three copies: the words', the powers', the rows'. -/
abbrev cWcell (d : Dev nD) (L : grid0.Coords) : GSem nD τ sig := (thr d L, .dma cc0_scoped0.sem)
abbrev cPcell (d : Dev nD) (L : grid0.Coords) : GSem nD τ sig := (thr d L, .dma cc0_scoped1.sem)
abbrev cOcell (d : Dev nD) (L : grid0.Coords) : GSem nD τ sig := (thr d L, .dma cc0_scoped2.sem)

theorem ownSems0_V :
    (ownSems0 (thr d L) : sProp 𝕄)
      = iprop(semVal (cWcell d L) 0 ∗ semVal (cPcell d L) 0 ∗ semVal (cOcell d L) 0
          ∗ bigSep ((((ownCells (thr d L)).erase (cWcell d L)).erase (cPcell d L)).erase (cOcell d L)) fun g => semVal g 0) := by
  unfold SparseCore.Cfg.ownSems0
  rw [SparseCore.bigSep_erase' ((mem_ownCells (g := cWcell d L)).mpr ⟨rfl, by
      show (SemLoc.dma cc0_scoped0.sem : SemLoc sig).isScoped .scVector = true; decide⟩),
    SparseCore.bigSep_erase' (Finset.mem_erase.mpr ⟨by simp [cWcell, cPcell]; decide, (mem_ownCells (g := cPcell d L)).mpr ⟨rfl, by
      show (SemLoc.dma cc0_scoped1.sem : SemLoc sig).isScoped .scVector = true; decide⟩⟩),
    SparseCore.bigSep_erase' (Finset.mem_erase.mpr ⟨by simp [cPcell, cOcell]; decide, Finset.mem_erase.mpr ⟨by simp [cWcell, cOcell]; decide,
      (mem_ownCells (g := cOcell d L)).mpr ⟨rfl, by show (SemLoc.dma cc0_scoped2.sem : SemLoc sig).isScoped .scVector = true; decide⟩⟩⟩)]

/-- The tile's own buffers are its three scratches, each at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

variable [FloatOps F] (A : Args F)

/-! ## The run -/

/-- The tile's words, as its scratch holds them: block `w` of the words. -/
def idsL (d : Dev nD) (L : grid0.Coords) : S512x16.Idx → BitVec 32 := fun ι => (wK L).view.read (Elt F) (A.ids d) ι

/-- Before row `k`: the fetched words and powers, and a row scratch whose first `k` rows are their words' vectors. -/
def inv (k : ℕ) (_ : Unit) : sProp 𝕄 :=
  iprop((sW.view.loc (thr d L) ↦{fullShare} idsL A d L)
    ∗ ∃ g : S512x128.Idx → F .f32, ⌜∀ ι : S512x128.Idx, (ι 0).val < k → g ι = table (n := 512) (A.pw d) (idsL A d L) ι⌝
        ∗ sO.view.loc (thr d L) ↦{fullShare} g)

/-- The row scratch after the eight zero stores of row `k`. -/
abbrev zeroed (k : Fin k0_t1_loop.trips) (g : S512x128.Idx → F .f32) : S512x128.Idx → F .f32 :=
  sO.view.writes (Elt F) g
    [⟨Rect.unit (k0_off9 k) S1x16.size (k0_off9_inb k), shapeCast S1x16 (k0_pay1 (F := F)) shapeCasts_S16_S1x16⟩,
      ⟨Rect.unit (k0_off8 k) S1x16.size (k0_off8_inb k), shapeCast S1x16 (k0_pay1 (F := F)) shapeCasts_S16_S1x16⟩,
      ⟨Rect.unit (k0_off7 k) S1x16.size (k0_off7_inb k), shapeCast S1x16 (k0_pay1 (F := F)) shapeCasts_S16_S1x16⟩,
      ⟨Rect.unit (k0_off6 k) S1x16.size (k0_off6_inb k), shapeCast S1x16 (k0_pay1 (F := F)) shapeCasts_S16_S1x16⟩,
      ⟨Rect.unit (k0_off5 k) S1x16.size (k0_off5_inb k), shapeCast S1x16 (k0_pay1 (F := F)) shapeCasts_S16_S1x16⟩,
      ⟨Rect.unit (k0_off4 k) S1x16.size (k0_off4_inb k), shapeCast S1x16 (k0_pay1 (F := F)) shapeCasts_S16_S1x16⟩,
      ⟨Rect.unit (k0_off3 k) S1x16.size (k0_off3_inb k), shapeCast S1x16 (k0_pay1 (F := F)) shapeCasts_S16_S1x16⟩,
      ⟨Rect.unit (k0_off2 k) S1x16.size (k0_off2_inb k), shapeCast S1x16 (k0_pay1 (F := F)) shapeCasts_S16_S1x16⟩]

/-- The eight zero stores of row `k`, read at one index: row `k` is zero, the other rows are as before. -/
theorem zeros_apply (k : Fin k0_t1_loop.trips) (g : S512x128.Idx → F .f32) (ι : S512x128.Idx) :
    zeroed k g ι = if (ι 0).val = k.val then Scalar.ofBits .f32 0x00000000#32 else g ι := by
  have hz : ∀ x, (shapeCast S1x16 (k0_pay1 (F := F)) shapeCasts_S16_S1x16 : Vec F S1x16 .f32) x = Scalar.ofBits .f32 0x00000000#32 := fun _ => rfl
  have h1 := (ι 1).isLt
  have h1' : (ι 1).val < 128 := h1
  show sO.view.read (Elt F) (zeroed k g) ι = _
  unfold zeroed
  rw [View.read_writes_cons_unit _ _ _ _ _ _ (k0_off9_eq k), View.read_writes_cons_unit _ _ _ _ _ _ (k0_off8_eq k),
    View.read_writes_cons_unit _ _ _ _ _ _ (k0_off7_eq k), View.read_writes_cons_unit _ _ _ _ _ _ (k0_off6_eq k),
    View.read_writes_cons_unit _ _ _ _ _ _ (k0_off5_eq k), View.read_writes_cons_unit _ _ _ _ _ _ (k0_off4_eq k),
    View.read_writes_cons_unit _ _ _ _ _ _ (k0_off3_eq k), View.read_writes_cons_unit _ _ _ _ _ _ (k0_off2_eq k)]
  simp only [hz, dite_eq_ite]
  have hc : ∀ o : ℕ, (∀ a, (![k.val, o] : Fin 2 → ℕ) a ≤ (ι a).val ∧ (ι a).val < (![k.val, o] : Fin 2 → ℕ) a + S1x16.size a)
      ↔ ((ι 0).val = k.val ∧ o ≤ (ι 1).val ∧ (ι 1).val < o + 16) := fun o => by
    refine Fin.forall_fin_two.trans ?_
    show ((k.val ≤ (ι 0).val ∧ (ι 0).val < k.val + 1) ∧ (o ≤ (ι 1).val ∧ (ι 1).val < o + 16)) ↔ _
    omega
  have hr : View.read (Elt F) sO.view (sO.view.writes (Elt F) g []) ι = g ι := rfl
  rw [hr]
  by_cases hk : (ι 0).val = k.val
  · rw [if_pos hk]
    split_ifs with c1 c2 c3 c4 c5 c6 c7 c8 <;> try rfl
    exfalso
    rw [hc] at c1 c2 c3 c4 c5 c6 c7 c8
    omega
  · rw [if_neg hk]
    have hn : ∀ o : ℕ, ¬ (∀ a, (![k.val, o] : Fin 2 → ℕ) a ≤ (ι a).val ∧ (ι a).val < (![k.val, o] : Fin 2 → ℕ) a + S1x16.size a) :=
      fun o h => hk ((hc o).mp h).1
    rw [if_neg (hn _), if_neg (hn _), if_neg (hn _), if_neg (hn _), if_neg (hn _), if_neg (hn _), if_neg (hn _), if_neg (hn _)]

/-- A folded conditional sum whose conditions agree lane by lane. -/
theorem foldl_congr {β : Type} {n : ℕ} (f f' : β → Fin n → β) (h : ∀ y k, f y k = f' y k) (z : β) :
    (List.finRange n).foldl f z = (List.finRange n).foldl f' z := by
  rw [show f = f' from funext fun y => funext fun k => h y k]

/-- One row: rows below `k` done and row `k` zeroed, the indexed store of word `k` leaves the rows up to `k` done. -/
theorem row_step (p : S16.Idx → F .f32) (ids : S512x16.Idx → BitVec 32) (k : Fin 512) (g g' : S512x128.Idx → F .f32)
    (hg : ∀ ι : S512x128.Idx, (ι 0).val < k.val → g ι = table (n := 512) p ids ι)
    (hg' : ∀ ι : S512x128.Idx, g' ι = if (ι 0).val = k.val then Scalar.ofBits .f32 0x00000000#32 else g ι)
    (w r : IVec S16 32) (v : Vec F S16 .f32) (hw : ∀ l, w l = rowOf ids k l) (hr : ∀ l, (r l).toNat = k.val) (hv : ∀ l, v l = p l)
    (h : ∀ a x, ((![r, w] : Fin 2 → IVec S16 32) a x).toNat < S512x128.size a) (ι : S512x128.Idx) (hι : (ι 0).val < k.val + 1) :
    storeIdx (s := S512x128) g' ![r, w] v (fun _ => 1#1) true h ι = table (n := 512) p ids ι := by
  have hcond : ∀ j : Fin 16, (∀ a : Fin 2, (ι a).val = ((![r, w] : Fin 2 → IVec S16 32) a (lane j)).toNat)
      ↔ ((ι 0).val = k.val ∧ (ι 1).val = (w (lane j)).toNat) := fun j => by
    refine Fin.forall_fin_two.trans ?_
    show ((ι 0).val = (r (lane j)).toNat ∧ (ι 1).val = (w (lane j)).toNat) ↔ _
    rw [hr]
  refine (storeIdx_apply (F := F) (s := S512x128) (e := .f32) (d := ![16]) g' ![r, w] v h ι).trans ?_
  by_cases hk : (ι 0).val = k.val
  · rw [hg', if_pos hk]
    unfold table wordRow
    refine foldl_congr _ _ (fun y j => ?_) _
    have e : rowOf ids (ι 0) (lane j) = w (lane j) := by
      rw [hw, show ι 0 = k from Fin.ext hk]
    rw [e]
    by_cases hc : (w (lane j)).toNat = (ι 1).val
    · rw [if_pos ((hcond j).mpr ⟨hk, hc.symm⟩), if_pos hc]
      show FloatOps.idxAddf y (v (lane j)) = _
      rw [hv]
    · rw [if_neg (fun hh => hc ((hcond j).mp hh).2.symm), if_neg hc]
  · rw [← hg ι (by omega), show g ι = g' ι from by rw [hg', if_neg hk]]
    refine (foldl_congr _ (fun y _ => y) (fun y j => ?_) _).trans ?_
    · rw [if_neg (fun hh => hk ((hcond j).mp hh).1)]
    · generalize List.finRange _ = l
      induction l with
      | nil => rfl
      | cons _ _ ih => exact ih

/-- The word the loop reads at row `k`, as a vector of lanes. -/
theorem word_row (k : Fin k0_t1_loop.trips) (ids : S512x16.Idx → BitVec 32) (l : S16.Idx) :
    shapeCast S16 (sW.view.readAt (Elt F) (Rect.unit (s := S512x16) (k0_off10 k) S1x16.size (k0_off10_inb k)).toLoadRect ids) shapeCasts_S1x16_S16 l
      = rowOf ids (⟨k.val, Nat.lt_of_lt_of_le k.isLt k0_t1_abs.2.1⟩ : Fin 512) l := by
  refine (Idealize.ShloMosaic.shapeCast_dropUnit_apply (![16] : Fin 1 → ℕ) _ shapeCasts_S1x16_S16 l).trans ?_
  rw [View.readAt_unit _ _ _ (k0_off10_eq k) (k0_off10_eq k ▸ k0_off10_inb k)]
  show ids _ = ids _
  refine congrArg ids (funext fun a => Fin.ext ?_)
  match a with
  | 0 => rfl
  | 1 =>
    show 0 + 1 * (l 0).val = (l 0).val
    omega

/-- The loop's row number as a word. -/
theorem iv_toNat (k : Fin k0_t1_loop.trips) : (Scf.iv 0#32 1#32 k.val).toNat = k.val := by
  have hk : k.val < 512 := Nat.lt_of_lt_of_le k.isLt k0_t1_abs.2.1
  rw [Scf.iv_eq_ofInt, show (0#32 : BitVec 32).toInt + (k.val : Int) * (1#32 : BitVec 32).toInt = ((k.val : ℕ) : Int) from by simp,
    BitVec.ofInt_natCast, BitVec.toNat_ofNat]
  exact Nat.mod_eq_of_lt (by omega)

theorem trips_eq : k0_t1_loop.trips = 512 := by decide +kernel

theorem emb_oK (y : S512x128.Idx) (a : Fin 2) : ((oK L).view.emb y a).val = k0_off11 L a + 1 * (y a).val := rfl
theorem emb_wK (y : S512x16.Idx) (a : Fin 2) : ((wK L).view.emb y a).val = k0_off1 L a + 1 * (y a).val := rfl

/-- The word of a tile's row is the table's word at the row's place in the table. -/
theorem rowOf_idsL (y : S512x128.Idx) : rowOf (n := 512) (idsL A d L) (y 0) = rowOf (n := 16384) (A.ids d) ((oK L).view.emb y 0) := by
  funext l
  show A.ids d ((wK L).view.emb (ValueIdx.ix2 (y 0) (l 0))) = A.ids d (ValueIdx.ix2 ((oK L).view.emb y 0) (l 0))
  refine congrArg (A.ids d) (funext fun a => Fin.ext ?_)
  match a with
  | 0 =>
    show k0_off1 L 0 + 1 * (y 0).val = k0_off11 L 0 + 1 * (y 0).val
    rw [k0_off1_eq, k0_off11_eq]
  | 1 =>
    show k0_off1 L 1 + 1 * (l 0).val = (l 0).val
    rw [k0_off1_eq]
    show 0 + 1 * (l 0).val = (l 0).val
    omega

/-- The table of a tile's words at a row is the whole table at the row's place. -/
theorem table_idsL (y : S512x128.Idx) :
    table (n := 512) (A.pw d) (idsL A d L) y = table (n := 16384) (A.pw d) (A.ids d) ((oK L).view.emb y) := by
  have h1 : ((oK L).view.emb y 1).val = (y 1).val := by
    rw [emb_oK, k0_off11_eq]
    show 0 + 1 * (y 1).val = (y 1).val
    omega
  unfold table
  rw [rowOf_idsL, h1]

/-- The block a tile writes out is the table of its words, at the table's own rows. -/
theorem block_new (g : S512x128.Idx → F .f32) (hg : ∀ ι : S512x128.Idx, g ι = table (n := 512) (A.pw d) (idsL A d L) ι)
    (x : S16384x128.Idx) (hx : x ∈ (oK L).view.set) :
    ((oK L).view.writes (Elt F) (A.old d) [⟨Rect.whole S512x128, g⟩] : S16384x128.Idx → F .f32) x = A.new d x := by
  obtain ⟨y, -, hy⟩ := Finset.mem_map.mp hx
  have e : (Rect.whole S512x128).emb y = y := funext fun a => Fin.ext (by
    show 0 + 1 * (y a).val = (y a).val
    omega)
  have h := View.read_writes_cons_emb (oK L).view (A.old d) (Rect.whole S512x128) g [] y
  rw [e, View.read_apply, hg, table_idsL, hy] at h
  generalize (oK L).view.writes (Elt F) (A.old d) [⟨Rect.whole S512x128, g⟩] = z at h ⊢
  exact h

/-- One tile's run: its block of the result becomes its words' vectors. -/
theorem tile_body (hF : (K (F := F)).Facts) (hA : A.OK) (O : CellTallies nD τ sig (HIx 1)) (W : Waits sig (HIx 1)) (hO : ∀ g, O g none = 0) :
    iprop(levAts (K (F := F)).L (K (F := F)).lev ∗ emp ∗ tileIn A d (widL L)
        ∗ scopedBufs (thr d L) ∗ scopedSems0 (thr d L) ∗ owes (thr d L) O W)
      ⊢ wp frame (wpE (defs₀ (F := F)) 𝒱₀ (thr d L) none) Set.univ
          (cc0__fofe_body L wV (Memref.isWhole_whole _) pV (Memref.isWhole_whole _) oV (Memref.isWhole_whole _)
            sW (Memref.isWhole_whole _) sP (Memref.isWhole_whole _) sO (Memref.isWhole_whole _) cc0_scoped0 cc0_scoped1 cc0_scoped2)
          fun _ => iprop(tileOut A d (widL L)
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V]
  unfold tileIn
  iintro ⟨#Hlv, -, ⟨Hw, Hp, Ho⟩, ⟨⟨%fs, Hs⟩, ⟨%fq, Hq⟩, ⟨%fu, Hu⟩, Hbufs⟩, ⟨HsemW, HsemP, HsemO, Hsems⟩, HO⟩
  ihave Hmw := (show levAts (K (F := F)).L (K (F := F)).lev ⊢ Transfers.MayWaits (thr d L) (default : HIx 1) O from
    (K (F := F)).mayWaits_none (thr := thr d L) hO) $$ Hlv
  ihave Hw' := (Entails.of_eq (pts_wK (F := F) d L _).symm) $$ Hw
  ihave Hp' := (Entails.of_eq (pts_pV (F := F) d L _ _).symm) $$ Hp
  ihave Ho' := (Entails.of_eq (pts_oK (F := F) d L _).symm) $$ Ho
  ihave Hs' := (Entails.of_eq (pts_sW (F := F) d L _).symm) $$ Hs
  ihave Hq' := (Entails.of_eq (pts_sP (F := F) d L _).symm) $$ Hq
  ihave Hu' := (Entails.of_eq (pts_sO (F := F) d L _).symm) $$ Hu
  rw [cc0__fofe_body_eq_skeleton]
  sl_unfold [cc0__fofe_body_skel]
  sl_exec (disch := exact View.amount_pos _ _ (show 0 < S512x128.numel by decide))
  have hs : View.write (Elt F) sW.view fs (tile_body.sl.dma0 d L A) Finset.univ = idsL A d L := by
    unfold tile_body.sl.dma0
    exact View.write_whole_univ _ _ _
  have hq : ∀ l, (View.readAt (Elt F) sP.view (Rect.unit ![0] S16.size inb_S16_S16_0).toLoadRect
              (View.write (Elt F) sP.view fq (tile_body.sl.dma0_1 d A) Finset.univ)) l = A.pw d l := by
    intro l
    unfold tile_body.sl.dma0_1
    rw [View.readAt_full]
    show View.read (Elt F) sP.view (View.write (Elt F) (View.whole cc0_scratch1) fq _ Finset.univ) l = _
    rw [View.write_whole_univ]
    rfl
  rw [hs]
  generalize (View.readAt (Elt F) sP.view (Rect.unit ![0] S16.size inb_S16_S16_0).toLoadRect
              (View.write (Elt F) sP.view fq (tile_body.sl.dma0_1 d A) Finset.univ)) = v3 at hq ⊢
  sl_for (inv d L A) $$ [Hs' Hu']
  case region =>
    intro k _
    unfold inv
    iintro ⟨Hs', %g, %hg, Hu'⟩
    sl_exec
    have hr : ∀ l, (tile_body.sl.v24 k l).toNat = k.val := fun l => iv_toNat k
    have hw : ∀ l, tile_body.sl.v23 d L A k l = rowOf (idsL A d L) ⟨k.val, Nat.lt_of_lt_of_le k.isLt k0_t1_abs.2.1⟩ l := fun l => word_row k _ l
    have hchk : k0_chk1 (tile_body.sl.v23 d L A k) (tile_body.sl.v24 k) := by
      intro a x
      match a with
      | 0 =>
        show (tile_body.sl.v24 k x).toNat < 512
        rw [hr]
        exact Nat.lt_of_lt_of_le k.isLt k0_t1_abs.2.1
      | 1 =>
        show (tile_body.sl.v23 d L A k x).toNat < 128
        rw [hw]
        exact hA d _
    rw [wp_assume_of _ _ _ _ hchk]
    ihave Hu := (Entails.of_eq (pts_sOA (F := F) d L (zeroed k g)).symm) $$ Hu'
    have hz := zeros_apply k g
    generalize zeroed k g = z at hz ⊢
    generalize tile_body.sl.v23 d L A k = w at hw hchk ⊢
    generalize tile_body.sl.v24 k = r at hr hchk ⊢
    iapply (SparseCore.wp_vectorStoreIdx 𝒱₀ (thr d L) none Set.univ (base := sO)) $$ Hu; iintro Hu
    sl_step
    isplitl [Hs']; · iexact Hs'
    iexists _
    isplitr
    swap
    · iapply (Entails.of_eq (pts_sOA (F := F) d L _))
      iexact Hu
    ipureintro
    intro ι hι
    refine (congrFun (Memref.write_access_whole_univ (Elt F) cc0_scratch2 z _) ι).trans ?_
    have hrd : View.read (Elt F) (sO.access (.whole S512x128)) z = z := Memref.read_access_whole (Elt F) cc0_scratch2 z
    rw [hrd]
    exact row_step (A.pw d) (idsL A d L) ⟨k.val, Nat.lt_of_lt_of_le k.isLt k0_t1_abs.2.1⟩ g z hg hz w r v3 hw hr hq _ ι hι
  · unfold inv
    isplitl [Hs']; · iexact Hs'
    iexists fu
    isplitr
    · ipureintro
      intro ι h
      exact absurd h (Nat.not_lt_zero _)
    iexact Hu'
  iintro %_ Hi
  unfold inv
  icases Hi with ⟨Hs', %g, %hg, Hu'⟩
  have hall : ∀ ι : S512x128.Idx, g ι = table (n := 512) (A.pw d) (idsL A d L) ι := fun ι =>
    hg ι (by
      have h : (ι 0).val < 512 := (ι 0).isLt
      have e : Scf.trips k0_t1_loop.lb k0_t1_loop.ub k0_t1_loop.st = 512 := trips_eq
      omega)
  sl_exec (disch := exact View.amount_pos _ _ (show 0 < S512x128.numel by decide))
  sl_step
  isplitl [Hw' Hp' Ho']
  · unfold tileOut
    isplitl [Hw']; · iapply (Entails.of_eq (pts_wK (F := F) d L _)); iexact Hw'
    isplitl [Hp']; · iapply (Entails.of_eq (pts_pV (F := F) d L _ _)); iexact Hp'
    iapply (Entails.of_eq ((pointsTo_congr fun x hx => block_new d L A g hall x hx).trans (pts_oK (F := F) d L (A.new d))))
    iexact Ho'
  isplitl [Hs' Hq' Hu' Hbufs]
  · isplitl [Hs']; · iexists _; iexact Hs'
    isplitl [Hq']; · iexists _; iexact Hq'
    isplitl [Hu']; · iexists _; iexact Hu'
    iexact Hbufs
  isplitl [HsemW HsemP HsemO Hsems]
  · isplitl [HsemW]; · iexact HsemW
    isplitl [HsemP]; · iexact HsemP
    isplitl [HsemO]; · iexact HsemO
    iexact Hsems
  iexists _; isplitr
  swap; · iexact HO
  ipureintro; intro p _
  rcases p.2 with _ | q
  · exact .inr (.inl rfl)
  · exact .inr (.inr (congrArg some (Subsingleton.elim q 0)))

/-! ## The obligation of the launch -/

/-- The grid coordinates of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__fofe_body (coordsV c s)
          wV (Memref.isWhole_whole _) pV (Memref.isWhole_whole _) oV (Memref.isWhole_whole _)
          sW (Memref.isWhole_whole _) sP (Memref.isWhole_whole _) sO (Memref.isWhole_whole _) cc0_scoped0 cc0_scoped1 cc0_scoped2) ⟨⟩ c s := rfl

/-- Every tile of the launch does its share. -/
theorem tileObl (hF : (K (F := F)).Facts) (hA : A.OK) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) A hF hA O W hO

end Cert.Proof.Fofe

end
-- ==== Proof.Launch.lean ====
/-
  The launch of the word-vector kernel: how the arrays are dealt to the thirty-two tiles and come back, what @main
  computes before and after the call, and the run of the whole program. It terminates with every semaphore counter at
  zero, the arguments unchanged, and the result at the words' vectors.
-/
module

public import proofs.«01_k».proof.Proof.Tile
public import Idealize.ShloMosaic.Lib.Pipeline.Frame

@[expose] public section

noncomputable section

namespace Cert.Proof.Fofe

open Cert.KernelIdeal Cert.KernelIdeal.Gen

open Idealize.ShloMosaic
open Idealize.ShloMosaic.SparseCore (S V T)
open Idealize.ShloMosaic.SparseCore.Cfg (HIx Pay)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays as the tiles' pieces -/

theorem wSet_eq (w : Fin 32) : wSet w = (wBlk w).set := by
  show ((View.whole (main_v8_scv : Ref sig .scVector)).slice (wBlk w)).set = _
  rw [View.set_slice]; exact Finset.map_refl
theorem oSet_eq (w : Fin 32) : oSet w = (oBlk w).set := by
  show ((View.whole (main_v9_scv : Ref sig .scVector)).slice (oBlk w)).set = _
  rw [View.set_slice]; exact Finset.map_refl

theorem wSet_disjoint : ∀ w ∈ (Finset.univ : Finset (Fin 32)), ∀ w' ∈ (Finset.univ : Finset (Fin 32)), w ≠ w' → Disjoint (wSet w) (wSet w') :=
  fun w _ w' _ h => by rw [wSet_eq, wSet_eq]; exact Rect.part_disjoint hdivW h
theorem oSet_disjoint : ∀ w ∈ (Finset.univ : Finset (Fin 32)), ∀ w' ∈ (Finset.univ : Finset (Fin 32)), w ≠ w' → Disjoint (oSet w) (oSet w') :=
  fun w _ w' _ h => by rw [oSet_eq, oSet_eq]; exact Rect.part_disjoint hdivO h
theorem wSet_cover : Finset.univ.biUnion wSet = (Finset.univ : Finset S16384x16.Idx) :=
  (Finset.biUnion_congr rfl fun w _ => wSet_eq w).trans (Rect.biUnion_part hdivW)
theorem oSet_cover : Finset.univ.biUnion oSet = (Finset.univ : Finset S16384x128.Idx) :=
  (Finset.biUnion_congr rfl fun w _ => oSet_eq w).trans (Rect.biUnion_part hdivO)

/-- The words whole are the thirty-two blocks of them. -/
theorem words_blocks (d : Dev nD) (f : Buf (Elt F) (wLoc d)) :
    (wLoc d ↦{fullShare} f : sProp 𝕄) = bigSep Finset.univ fun w : Fin 32 => wLoc d ↦[wSet w]{fullShare} f := by
  rw [← pointsTo_biUnion Finset.univ (ℓ := wLoc d) wSet wSet_disjoint, wSet_cover]
/-- The result whole is the thirty-two blocks of it. -/
theorem result_blocks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSet_disjoint, oSet_cover]
/-- The powers whole are thirty-two read shares of them. -/
theorem powers_shares (d : Dev nD) (f : Buf (Elt F) (pLoc d)) :
    (pLoc d ↦{fullShare} f : sProp 𝕄) = bigSep Finset.univ fun w : Fin 32 => pLoc d ↦{pShare w} f :=
  Transfers.pointsTo_deal Finset.univ Finset.univ_nonempty fullShare

/-- The thirty-two tiles, by core and subcore. -/
def tileEquiv : Fin 2 × Fin 16 ≃ Fin 32 where
  toFun cs := wid cs.1 cs.2
  invFun w := (⟨w.val % 2, by omega⟩, ⟨w.val / 2, by omega⟩)
  left_inv cs := by
    obtain ⟨c, s⟩ := cs
    refine Prod.ext (Fin.ext ?_) (Fin.ext ?_)
    · show (2 * s.val + c.val) % 2 = c.val
      omega
    · show (2 * s.val + c.val) / 2 = s.val
      omega
  right_inv w := Fin.ext (show 2 * (w.val / 2) + w.val % 2 = w.val by omega)

/-- One piece per tile is one per core and subcore. -/
theorem bigSep_tiles (Φ : Fin 32 → sProp 𝕄) :
    (bigSep Finset.univ fun c : Fin 2 => bigSep Finset.univ fun s : Fin 16 => Φ (wid c s)) = bigSep Finset.univ Φ := by
  rw [bigSep_univ_equiv tileEquiv Φ, bigSep_univ_prod]; rfl

variable [FloatOps F] (A : Args F)

/-- What the thirty-two tiles are handed is the three arrays whole. -/
theorem tilesIn_eq (d : Dev nD) : (bigSep Finset.univ fun w : Fin 32 => tileIn A d w)
    = iprop((wLoc d ↦{fullShare} A.ids d) ∗ (pLoc d ↦{fullShare} A.pw d) ∗ oLoc d ↦{fullShare} A.old d) := by
  unfold tileIn
  rw [bigSep_sep', bigSep_sep', ← words_blocks, ← powers_shares, ← result_blocks]
/-- What they hand back is the three arrays whole, the result at the words' vectors. -/
theorem tilesOut_eq (d : Dev nD) : (bigSep Finset.univ fun w : Fin 32 => tileOut A d w)
    = iprop((wLoc d ↦{fullShare} A.ids d) ∗ (pLoc d ↦{fullShare} A.pw d) ∗ oLoc d ↦{fullShare} A.new d) := by
  unfold tileOut
  rw [bigSep_sep', bigSep_sep', ← words_blocks, ← powers_shares, ← result_blocks]

theorem start_eq (d : Dev nD) : (bigSep Finset.univ fun c : Fin ((K (F := F)).nCore 0) => (P A).st 0 d c)
    = iprop((wLoc d ↦{fullShare} A.ids d) ∗ (pLoc d ↦{fullShare} A.pw d) ∗ oLoc d ↦{fullShare} A.old d) :=
  (bigSep_tiles (fun w => tileIn A d w)).trans (tilesIn_eq A d)
theorem done_eq (d : Dev nD) : (bigSep Finset.univ fun c : Fin ((K (F := F)).nCore 0) => (P A).dn 0 d c)
    = iprop((wLoc d ↦{fullShare} A.ids d) ∗ (pLoc d ↦{fullShare} A.pw d) ∗ oLoc d ↦{fullShare} A.new d) :=
  (bigSep_tiles (fun w => tileOut A d w)).trans (tilesOut_eq A d)

/-- A core's pieces are its sixteen tiles'. -/
theorem vecSplit : (K (F := F)).VecSplit' (P A) 0 := by
  intro d c
  show (bigSep Finset.univ fun s : Fin 16 => tileIn A d (wid (Fin.cast nCore_zero c) s)) ⊢ |={Set.univ}=> iprop(
      (bigSep Finset.univ fun s : Fin 16 => tileIn A d (wid (Fin.cast nCore_zero c) s))
      ∗ ((bigSep Finset.univ fun s : Fin 16 => tileOut A d (wid (Fin.cast nCore_zero c) s))
          -∗ bigSep Finset.univ fun s : Fin 16 => tileOut A d (wid (Fin.cast nCore_zero c) s)))
  iintro H; imodintro
  isplitl [H]; · iexact H
  iintro H; iexact H

/-! ## The ghost state at the launch -/

/-- The handshakes' first round, and no copy counted yet. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  rw [show (bigSep Finset.univ fun thr : Thread nD τ => bigSep Finset.univ fun q : Fin 1 => (P A).x q thr)
      = (bigSep Finset.univ fun _ : Thread nD τ => (iprop(emp) : sProp 𝕄)) from
    bigSep_congr fun _ _ => bigSep_univ_of_subsingleton (0 : Fin 1)]
  isplitr
  · rw [show (bigSep Finset.univ fun _ : Dev nD => (iprop(emp) : sProp 𝕄)) = iprop(emp) from bigSep_emp_const _]; iempintro
  · rw [show (bigSep Finset.univ fun _ : Thread nD τ => (iprop(emp) : sProp 𝕄)) = iprop(emp) from bigSep_emp_const _]; iempintro

/-! ## @main's arrays before and after the call -/

/-- The powers of `e`: entry `k` is `e ^ (15 - k)`. -/
def powers (e : FVec F S1 .f32) : FVec F S16 .f32 :=
  Host.powf (broadcastInDim S16 ![] bcast_S_S16 (shapeCast _ e shapeCasts_S1_S_))
    (addf (broadcastInDim S16 ![] bcast_S_S16 (constant S_ .f32 0x41700000#32))
      (mulf (broadcastInDim S16 ![] bcast_S_S16 (constant S_ .f32 0xBF800000#32)) (sitofp .f32 (iotaInDim S16 32 0))))

/-- @main's operations before the call. -/
abbrev before : List (HloOp τ sig (Elt F)) :=
  [ reshape main_arg2 main_v0 (rfl : (.f32 : EltTy) = .f32) shapeCasts_S1_S_,
    nullary main_v1 (sitofp .f32 (iotaInDim S16 32 0)),
    nullary main_cst (constant S_ .f32 0xBF800000#32),
    unary main_cst main_v2 (broadcastInDim S16 ![] bcast_S_S16 : (⟨S_, .f32⟩ : BufTy).Contents (Elt F) → (⟨S16, .f32⟩ : BufTy).Contents (Elt F)),
    binary main_v2 main_v1 main_v3 (mulf : (⟨S16, .f32⟩ : BufTy).Contents (Elt F) → (⟨S16, .f32⟩ : BufTy).Contents (Elt F) → (⟨S16, .f32⟩ : BufTy).Contents (Elt F)),
    nullary main_cst_0 (constant S_ .f32 0x41700000#32),
    unary main_cst_0 main_v4 (broadcastInDim S16 ![] bcast_S_S16 : (⟨S_, .f32⟩ : BufTy).Contents (Elt F) → (⟨S16, .f32⟩ : BufTy).Contents (Elt F)),
    binary main_v4 main_v3 main_v5 (addf : (⟨S16, .f32⟩ : BufTy).Contents (Elt F) → (⟨S16, .f32⟩ : BufTy).Contents (Elt F) → (⟨S16, .f32⟩ : BufTy).Contents (Elt F)),
    unary main_v0 main_v6 (broadcastInDim S16 ![] bcast_S_S16 : (⟨S_, .f32⟩ : BufTy).Contents (Elt F) → (⟨S16, .f32⟩ : BufTy).Contents (Elt F)),
    binary main_v6 main_v5 main_v7 (Host.powf : (⟨S16, .f32⟩ : BufTy).Contents (Elt F) → (⟨S16, .f32⟩ : BufTy).Contents (Elt F) → (⟨S16, .f32⟩ : BufTy).Contents (Elt F)),
    reshape main_arg0 main_v8 (rfl : (.i32 : EltTy) = .i32) shapeCasts_S64x256x16_S16384x16 ]

/-- @main's operation after it. -/
abbrev finish : HloOp τ sig (Elt F) := reshape main_v9 main_v10 (rfl : (.f32 : EltTy) = .f32) shapeCasts_S16384x128_S64x256x128

theorem before_sub : ∀ op ∈ before (F := F), op.bufs ⊆ Pipeline.ucRefs τ sig := fun op hop =>
  Pipeline.sub_ucRefs op (List.forall_iff_forall_mem.mp (show (before (F := F)).Forall fun op => op.bufs ⊆ tcRefs τ sig from
    ⟨reshape_bufs_sub .., nullary_bufs_sub .., nullary_bufs_sub .., unary_bufs_sub .., binary_bufs_sub .., nullary_bufs_sub ..,
      unary_bufs_sub .., binary_bufs_sub .., unary_bufs_sub .., binary_bufs_sub .., reshape_bufs_sub ..⟩) op hop)
theorem finish_sub : (finish (F := F)).bufs ⊆ Pipeline.ucRefs τ sig := Pipeline.sub_ucRefs _ (reshape_bufs_sub ..)

theorem before_fresh : ∀ op ∈ before (F := F), op.fresh = ∅ := by
  intro _ h; (repeat (cases h with | head => rfl | tail _ h => ?_)); exact nomatch h

/-- @main is the operations before the call, the call, the operation after it. -/
theorem main_split (d : Dev nD) :
    main (F := F) d = seq before >>= fun _ => ((sc (F := F)).run d 0 >>= fun _ => hlo rfl finish fun _ => .ret ⟨⟩) := by
  rw [seq_bind_seqK]; rfl

variable (m : (ℓ : Loc nD τ sig) → Buf (Elt F) ℓ) (ρ : Dev nD → PrngReg)

/-- The words and the powers @main hands the call, and what the result held at the start. -/
def args : Args F where
  ids d := shapeCast S16384x16 (m ((SparseCore.T d).loc main_arg0)) shapeCasts_S64x256x16_S16384x16
  pw d := powers (m ((SparseCore.T d).loc main_arg2))
  old d := m (oLoc d)

/-- The arrays at the start, when the call is made, when it is done, and at the end. -/
abbrev at₀ (d : Dev nD) : Valuation τ sig (Elt F) := fun b => m (d, b)
abbrev at₁ (d : Dev nD) : Valuation τ sig (Elt F) := after before (at₀ m d)
abbrev at₂ (d : Dev nD) : Valuation τ sig (Elt F) := Function.update (at₁ m d) (Proc.devRef .tc main_v9) ((args m).new d)
abbrev at₃ (d : Dev nD) : Valuation τ sig (Elt F) := (finish (F := F)).result (at₂ m d)

theorem at₁_words (d : Dev nD) : at₁ m d (Proc.devRef .tc main_v8) = (args m).ids d := by
  unfold at₁; after_results_simp <;> rfl
theorem at₁_powers (d : Dev nD) : at₁ m d (Proc.devRef .tc main_v7) = (args m).pw d := by
  unfold at₁; after_results_simp <;> rfl
theorem at₁_result (d : Dev nD) : at₁ m d (Proc.devRef .tc main_v9) = (args m).old d := by
  unfold at₁; after_results_simp <;> rfl

/-- The three arrays the call takes, held. -/
theorem held_three (d : Dev nD) (W : Valuation τ sig (Elt F)) :
    (held (SparseCore.T d) {Proc.devRef .tc main_v8, Proc.devRef .tc main_v7, Proc.devRef .tc main_v9} W : sProp 𝕄)
      = iprop((wLoc d ↦{fullShare} W (Proc.devRef .tc main_v8)) ∗ (pLoc d ↦{fullShare} W (Proc.devRef .tc main_v7))
          ∗ oLoc d ↦{fullShare} W (Proc.devRef .tc main_v9)) := by
  unfold held
  rw [SparseCore.bigSep_insert' (by decide), SparseCore.bigSep_insert' (by decide), bigSep_singleton]

theorem three_sub : ({Proc.devRef .tc main_v8, Proc.devRef .tc main_v7, Proc.devRef .tc main_v9} : Finset (DevRef τ sig)) ⊆ Pipeline.ucRefs τ sig := by
  decide

/-- What the call does not take is not changed by it. -/
theorem held_rest (d : Dev nD) :
    (held (SparseCore.T d) (Pipeline.ucRefs τ sig \ {Proc.devRef .tc main_v8, Proc.devRef .tc main_v7, Proc.devRef .tc main_v9}) (at₁ m d) : sProp 𝕄)
      = held (SparseCore.T d) (Pipeline.ucRefs τ sig \ {Proc.devRef .tc main_v8, Proc.devRef .tc main_v7, Proc.devRef .tc main_v9}) (at₂ m d) :=
  held_congr _ fun b hb => (Function.update_of_ne (fun e => (Finset.mem_sdiff.mp hb).2 (by rw [e]; decide)) _ _).symm

/-- What @main holds when it makes the call is what the call takes and the rest. -/
theorem held_call (d : Dev nD) : (held (SparseCore.T d) (Pipeline.ucRefs τ sig) (at₁ m d) : sProp 𝕄)
    = iprop((bigSep Finset.univ fun c : Fin ((K (F := F)).nCore 0) => (P (args m)).st 0 d c)
        ∗ held (SparseCore.T d) (Pipeline.ucRefs τ sig \ {Proc.devRef .tc main_v8, Proc.devRef .tc main_v7, Proc.devRef .tc main_v9}) (at₂ m d)) := by
  rw [held_sub_split _ three_sub, held_three, at₁_words, at₁_powers, at₁_result, start_eq, held_rest]

/-- What the call brings back and the rest is what @main holds then. -/
theorem held_back (d : Dev nD) : (held (SparseCore.T d) (Pipeline.ucRefs τ sig) (at₂ m d) : sProp 𝕄)
    = iprop((bigSep Finset.univ fun c : Fin ((K (F := F)).nCore 0) => (P (args m)).dn 0 d c)
        ∗ held (SparseCore.T d) (Pipeline.ucRefs τ sig \ {Proc.devRef .tc main_v8, Proc.devRef .tc main_v7, Proc.devRef .tc main_v9}) (at₂ m d)) := by
  rw [held_sub_split _ three_sub, held_three, done_eq, show at₂ m d (Proc.devRef .tc main_v8) = (args m).ids d from
      (Function.update_of_ne (by decide) _ _).trans (at₁_words m d), show at₂ m d (Proc.devRef .tc main_v7) = (args m).pw d from
      (Function.update_of_ne (by decide) _ _).trans (at₁_powers m d), show at₂ m d (Proc.devRef .tc main_v9) = (args m).new d from
      Function.update_self ..]

/-! ## @main on the TensorCore -/

/-- What @main ends with: its arrays. -/
abbrev FIN (d : Dev nD) : sProp 𝕄 := held (SparseCore.T d) (Pipeline.ucRefs τ sig) (at₃ m d)

/-- @main on device `d`: the operations before the call, the call, the operation after it. -/
theorem hmain (κ : GSem nD τ sig → ℕ) (d : Dev nD) :
    iprop((K (F := F)).ctx EH (P (args m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_split, show (unscopedBufs d (fun b => m ((SparseCore.T d).loc b)) : sProp 𝕄) = held (SparseCore.T d) (Pipeline.ucRefs τ sig) (at₀ m d) from
    Pipeline.unscopedBufs_held d (at₀ m d)]
  iintro ⟨#Hctx, Hst, ⟨Hb, Hheld, Hts, -⟩, -⟩
  iapply (wp_seq 𝒱 none Set.univ d (Pipeline.ucRefs τ sig) _ before before_sub before_fresh (at₀ m d)) $$ [Hb Hheld]
  · isplitl [Hb] <;> iassumption
  iintro ⟨Hb, Hheld⟩
  ihave Hheld' := (Entails.of_eq (held_call m d)) $$ Hheld
  icases Hheld' with ⟨Hcall, Hrest⟩
  simp only [wp_bind]
  iapply ((K (F := F)).wp_run (D (F := F)) 𝒱 (EH := EH) (P := P (args m)) κ d 0) $$ [Hst Hcall Hrest Hb Hts]
  isplitr; · iexact Hctx
  isplitl [Hst]; · iexact Hst
  isplitl [Hcall]; · iexact Hcall
  iintro ⟨Hst, Hdn⟩
  ihave Hheld := (Entails.of_eq (held_back m d).symm) $$ [Hdn Hrest]
  · isplitl [Hdn] <;> iassumption
  iapply (wp_hlo_within 𝒱 (SparseCore.T d) none Set.univ (op := finish) finish_sub (V := at₂ m d)) $$ [Hb Hheld]
  · isplitl [Hb] <;> iassumption
  iintro ⟨Hb, Hheld⟩
  rw [wp_ret]; imodintro
  isplitl [Hst]; · iexact Hst
  isplitl [Hheld]; · iexact Hheld
  isplitl [Hb] <;> iassumption

/-- Every array @main names is one of those it holds. -/
theorem named_mem : ∀ b : Ref sig .tc, Proc.devRef .tc b ∈ Pipeline.ucRefs τ sig := by decide

/-- What a final state's memory says: @main's arrays. -/
def fq (d : Dev nD) (s' : Phys nD τ sig (Elt F)) : Prop := ∀ b ∈ Pipeline.ucRefs τ sig, s'.mem.mem (d, b) = at₃ m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (Pipeline.ucRefs τ sig)) $$ [HSI H]
  · isplitl [HSI] <;> iassumption
  ipureintro
  exact h

/-- The last operation writes the reshaped result alone. -/
theorem finish_writes {b : DevRef τ sig} (h : b ≠ Proc.devRef .tc main_v10) : b ∉ (finish (F := F)).writes :=
  fun hb => h (Finset.mem_singleton.mp hb)

/-- The result: the words' vectors, one per word of each sentence. -/
def result (d : Dev nD) : Buf (Elt F) ((SparseCore.T d : Thread nD τ).loc main_v10) :=
  shapeCast S64x256x128 ((args m).new d) shapeCasts_S16384x128_S64x256x128

theorem at₃_result (d : Dev nD) : at₃ m d (Proc.devRef .tc main_v10) = result m d := by
  unfold at₃ at₂ result
  after_results_simp
  rfl
theorem at₃_arg0 (d : Dev nD) : at₃ m d (Proc.devRef .tc main_arg0) = m ((SparseCore.T d).loc main_arg0) := by
  rw [show at₃ m d (Proc.devRef .tc main_arg0) = at₂ m d (Proc.devRef .tc main_arg0) from
      finish.result_of_not_mem _ (finish_writes (by decide)), show at₂ m d (Proc.devRef .tc main_arg0) = at₁ m d (Proc.devRef .tc main_arg0) from
      Function.update_of_ne (by decide) _ _]
  after_results_simp
theorem at₃_arg1 (d : Dev nD) : at₃ m d (Proc.devRef .tc main_arg1) = m ((SparseCore.T d).loc main_arg1) := by
  rw [show at₃ m d (Proc.devRef .tc main_arg1) = at₂ m d (Proc.devRef .tc main_arg1) from
      finish.result_of_not_mem _ (finish_writes (by decide)), show at₂ m d (Proc.devRef .tc main_arg1) = at₁ m d (Proc.devRef .tc main_arg1) from
      Function.update_of_ne (by decide) _ _]
  after_results_simp
theorem at₃_arg2 (d : Dev nD) : at₃ m d (Proc.devRef .tc main_arg2) = m ((SparseCore.T d).loc main_arg2) := by
  rw [show at₃ m d (Proc.devRef .tc main_arg2) = at₂ m d (Proc.devRef .tc main_arg2) from
      finish.result_of_not_mem _ (finish_writes (by decide)), show at₂ m d (Proc.devRef .tc main_arg2) = at₁ m d (Proc.devRef .tc main_arg2) from
      Function.update_of_ne (by decide) _ _]
  after_results_simp

/-- What a final state is: the result at the words' vectors, the arguments unchanged, every counter at zero. -/
def Final (r : PUnit × MemSt nD τ sig (Elt F)) : Prop :=
  (∀ d : Dev nD, r.2.mem ((SparseCore.T d).loc main_v10) = result m d
    ∧ r.2.mem ((SparseCore.T d).loc main_arg0) = m ((SparseCore.T d).loc main_arg0)
    ∧ r.2.mem ((SparseCore.T d).loc main_arg1) = m ((SparseCore.T d).loc main_arg1)
    ∧ r.2.mem ((SparseCore.T d).loc main_arg2) = m ((SparseCore.T d).loc main_arg2))
  ∧ r.2.sem = fun _ => 0

/-- Every fair execution from words of the vocabulary terminates in such a state. -/
theorem run_main [∀ e, Nonempty (Elt F e)] (hA : (args m).OK) :
    θ_run (Cert.KernelIdeal.defs (F := F)) (Cert.KernelIdeal.threads (F := F)) ⟨m, fun _ => 0, ρ⟩ (Final m) :=
  SparseCore.Cfg.θ_run_sc_quiescent (K := K (F := F)) (D := D (F := F)) (𝒱 := 𝒱) (EH := EH) (P := P (args m)) (A := ∅) facts v₀
    (fun q hq => match q with | 0 => nomatch hq)
    (fun q _ => match q with | 0 => tileObl (args m) facts hA)
    (fun q _ => match q with | 0 => SparseCore.Cfg.VecSplit.of_plain (vecSplit (args m)))
    m ρ main (fun _ => iprop(emp)) (FIN m) (u₀ (F := F)) (sep_elim_left.trans (hu₀ (args m))) (hmain m ρ) (fq m) (hfin m) (Final m)
    (fun s' h hz => ⟨fun d => ⟨(h d _ (named_mem _)).trans (at₃_result m d), (h d _ (named_mem _)).trans (at₃_arg0 m d),
      (h d _ (named_mem _)).trans (at₃_arg1 m d), (h d _ (named_mem _)).trans (at₃_arg2 m d)⟩, hz⟩)

end Cert.Proof.Fofe

end
-- ==== Proof.Value.lean ====
/-
  The value: at the exact floats, the words' vectors are what the reference's scatter leaves. A word's vector adds, at each
  character, the powers of the lanes that name it, lane after lane onto zero. The reference adds to zero the sum of the
  powers that land there: those of the same word's lanes that name the character.
-/
module

public import proofs.«01_k».proof.Proof.Launch
public import proofs.«01_k».proof.Proof.Gen.ReferenceIdeal.Run
public import Idealize.ShloMosaic.Lib.Routing.OpsPair
public import Idealize.ShloMosaic.Lib.ReduceAll

@[expose] public section

noncomputable section

namespace Cert.Proof.Fofe

open Idealize.ShloMosaic Idealize.ShloMosaic.ValueIdx
open Cert.ReferenceIdeal Cert.ReferenceIdeal.Gen

/-! ## Where the reference's updates land -/

/-- The reference's scatter. -/
abbrev scat : ScatterDims S64x256x128 S64x256x16x3 S64x256x16 := scatter_S64x256x128_S64x256x16x3_S64x256x16_n_012_012_3

/-- Update `(b, s, k)` lands at `(b', s', c)` exactly when its three index words, read signed, are `b'`, `s'` and `c`. -/
theorem lands (idx : IVec S64x256x16x3 32) (b b' : Fin 64) (s s' : Fin 256) (k : Fin 16) (c : Fin 128) :
    scat.resultIdx? (ix3 b s k) idx = some (ix3 b' s' c)
      ↔ (idx (ix4 b s k 0)).toInt = b'.val ∧ (idx (ix4 b s k 1)).toInt = s'.val ∧ (idx (ix4 b s k 2)).toInt = c.val := by
  have hs : ∀ a : Fin 3, scat.start (ix3 b s k) idx a = (idx (ix4 b s k a)).toInt := fun a => by
    have hm : a ∈ scat.scatterDimsToOperandDims := by
      show a ∈ ([0, 1, 2] : List (Fin 3))
      fin_cases a <;> decide
    unfold ScatterDims.start
    rw [dif_pos hm]
    congr 2
    funext e
    fin_cases a <;> fin_cases e <;> rfl
  have hw : ∀ a : Fin 3, scat.window (ix3 b s k) a = 0 := fun a => by fin_cases a <;> rfl
  rw [Routing.resultIdx?_eq_some]
  constructor
  · intro h
    have h0 := h 0
    have h1 := h 1
    have h2 := h 2
    rw [hs, hw] at h0 h1 h2
    exact ⟨by simpa using h0, by simpa using h1, by simpa using h2⟩
  · rintro ⟨h0, h1, h2⟩ a
    rw [hs, hw]
    match a with
    | ⟨0, _⟩ => simpa using h0
    | ⟨1, _⟩ => simpa using h1
    | ⟨2, _⟩ => simpa using h2

/-! ## The reference's index words -/

/-- The sentence's number, the word's and the character, each wrapped as an index is. -/
abbrev sentWords : IVec S64x1x1 32 :=
  select (cmpi .slt (broadcastInDim S64x1x1 ![0] bcast_S64_S64x1x1_0 (iotaInDim S64 32 0)) (broadcastInDim S64x1x1 ![] bcast_S_S64x1x1 (constantI S_ 32 0#32)))
    (addi (broadcastInDim S64x1x1 ![0] bcast_S64_S64x1x1_0 (iotaInDim S64 32 0)) (broadcastInDim S64x1x1 ![] bcast_S_S64x1x1 (constantI S_ 32 64#32)))
    (broadcastInDim S64x1x1 ![0] bcast_S64_S64x1x1_0 (iotaInDim S64 32 0))
abbrev posWords : IVec S1x256x1 32 :=
  select (cmpi .slt (broadcastInDim S1x256x1 ![1] bcast_S256_S1x256x1_1 (iotaInDim S256 32 0)) (broadcastInDim S1x256x1 ![] bcast_S_S1x256x1 (constantI S_ 32 0#32)))
    (addi (broadcastInDim S1x256x1 ![1] bcast_S256_S1x256x1_1 (iotaInDim S256 32 0)) (broadcastInDim S1x256x1 ![] bcast_S_S1x256x1 (constantI S_ 32 256#32)))
    (broadcastInDim S1x256x1 ![1] bcast_S256_S1x256x1_1 (iotaInDim S256 32 0))
abbrev charWords (ids : IVec S64x256x16 32) : IVec S64x256x16 32 :=
  select (cmpi .slt ids (broadcastInDim S64x256x16 ![] bcast_S_S64x256x16 (constantI S_ 32 0#32)))
    (addi ids (broadcastInDim S64x256x16 ![] bcast_S_S64x256x16 (constantI S_ 32 128#32))) ids

/-- One of the three words of every update. -/
abbrev col (x : IVec S64x256x16 32) : IVec S64x256x16x1 32 :=
  broadcastInDim S64x256x16x1 ![0, 1, 2] bcast_S64x256x16_S64x256x16x1_0_1_2 x

/-- Three words side by side for every update. -/
abbrev cols (x y z : IVec S64x256x16x1 32) : IVec S64x256x16x3 32 :=
  concatenate S64x256x16x3 3 [⟨S64x256x16x1, x⟩, ⟨S64x256x16x1, y⟩, ⟨S64x256x16x1, z⟩]
    concatenates_S64x256x16x1_S64x256x16x1_S64x256x16x1_S64x256x16x3_d3

/-- The three index words of every update. -/
abbrev indexWords (ids : IVec S64x256x16 32) : IVec S64x256x16x3 32 :=
  cols (col (broadcastInDim S64x256x16 ![0, 1, 2] bcast_S64x1x1_S64x256x16_0_1_2 sentWords))
    (col (broadcastInDim S64x256x16 ![0, 1, 2] bcast_S1x256x1_S64x256x16_0_1_2 posWords)) (col (charWords ids))

/-- Word `q` of an update is piece `q`'s. -/
theorem cols_apply (x y z : IVec S64x256x16x1 32) (b : Fin 64) (s : Fin 256) (k : Fin 16) (q : Fin 3) :
    cols x y z (ix4 b s k q) = (![x, y, z] q) (ix4 b s k 0) := by
  refine concatenate_apply_piece 3 [⟨S64x256x16x1, x⟩, ⟨S64x256x16x1, y⟩, ⟨S64x256x16x1, z⟩] _ (ix4 b s k q) q.val q.isLt S64x256x16x1 (![x, y, z] q)
    ?_ rfl q.val ?_ (ix4 b s k 0) (fun a ha => ?_) rfl
  · fin_cases q <;> rfl
  · fin_cases q <;> rfl
  · fin_cases a <;> first | rfl | exact absurd rfl ha

theorem col_apply (x : IVec S64x256x16 32) (b : Fin 64) (s : Fin 256) (k : Fin 16) : col x (ix4 b s k 0) = x (ix3 b s k) :=
  broadcastInDim_apply _ _ x _ _ fun a => by fin_cases a <;> rfl

theorem cols_0 (x y z : IVec S64x256x16 32) (b : Fin 64) (s : Fin 256) (k : Fin 16) :
    cols (col x) (col y) (col z) (ix4 b s k 0) = x (ix3 b s k) := (cols_apply _ _ _ b s k 0).trans (col_apply x b s k)
theorem cols_1 (x y z : IVec S64x256x16 32) (b : Fin 64) (s : Fin 256) (k : Fin 16) :
    cols (col x) (col y) (col z) (ix4 b s k 1) = y (ix3 b s k) := (cols_apply _ _ _ b s k 1).trans (col_apply y b s k)
theorem cols_2 (x y z : IVec S64x256x16 32) (b : Fin 64) (s : Fin 256) (k : Fin 16) :
    cols (col x) (col y) (col z) (ix4 b s k 2) = z (ix3 b s k) := (cols_apply _ _ _ b s k 2).trans (col_apply z b s k)

/-- One word per sentence, spread over its words' lanes. -/
theorem spread_sent (x : IVec S64x1x1 32) (b : Fin 64) (s : Fin 256) (k : Fin 16) :
    broadcastInDim S64x256x16 ![0, 1, 2] bcast_S64x1x1_S64x256x16_0_1_2 x (ix3 b s k) = x (ix3 b 0 0) :=
  broadcastInDim_apply _ _ x _ _ fun a => by fin_cases a <;> rfl
/-- One word per place in a sentence, spread over the sentences and the lanes. -/
theorem spread_pos (x : IVec S1x256x1 32) (b : Fin 64) (s : Fin 256) (k : Fin 16) :
    broadcastInDim S64x256x16 ![0, 1, 2] bcast_S1x256x1_S64x256x16_0_1_2 x (ix3 b s k) = x (ix3 0 s 0) :=
  broadcastInDim_apply _ _ x _ _ fun a => by fin_cases a <;> rfl

variable (ids : IVec S64x256x16 32)

theorem indexWords_0 (b : Fin 64) (s : Fin 256) (k : Fin 16) : indexWords ids (ix4 b s k 0) = sentWords (ix3 b 0 0) :=
  (cols_0 _ _ _ b s k).trans (spread_sent sentWords b s k)
theorem indexWords_1 (b : Fin 64) (s : Fin 256) (k : Fin 16) : indexWords ids (ix4 b s k 1) = posWords (ix3 0 s 0) :=
  (cols_1 _ _ _ b s k).trans (spread_pos posWords b s k)
theorem indexWords_2 (b : Fin 64) (s : Fin 256) (k : Fin 16) : indexWords ids (ix4 b s k 2) = charWords ids (ix3 b s k) :=
  cols_2 _ _ _ b s k

/-- A word below half the range, read signed, is its own number. -/
theorem toInt_small (v : BitVec 32) (h : v.toNat < 2 ^ 31) : v.toInt = v.toNat := by
  rw [BitVec.toInt_eq_toNat_cond]; split <;> omega

theorem sentWords_val (b : Fin 64) : (sentWords (ix3 b 0 0)).toInt = b.val := by
  have e : sentWords (ix3 b 0 0) = BitVec.ofNat 32 b.val := by
    show Scalar.select (IntOp.cmpi .slt (BitVec.ofNat 32 b.val) 0#32) _ (BitVec.ofNat 32 b.val) = _
    exact Routing.wrap_of_lt _ _ (by rw [BitVec.toNat_ofNat]; omega)
  rw [e, toInt_small _ (by rw [BitVec.toNat_ofNat]; omega), BitVec.toNat_ofNat]
  omega

theorem posWords_val (s : Fin 256) : (posWords (ix3 0 s 0)).toInt = s.val := by
  have e : posWords (ix3 0 s 0) = BitVec.ofNat 32 s.val := by
    show Scalar.select (IntOp.cmpi .slt (BitVec.ofNat 32 s.val) 0#32) _ (BitVec.ofNat 32 s.val) = _
    exact Routing.wrap_of_lt _ _ (by rw [BitVec.toNat_ofNat]; omega)
  rw [e, toInt_small _ (by rw [BitVec.toNat_ofNat]; omega), BitVec.toNat_ofNat]
  omega

theorem charWords_val (ι : S64x256x16.Idx) (h : (ids ι).toNat < 128) : (charWords ids ι).toInt = (ids ι).toNat := by
  have e : charWords ids ι = ids ι := by
    show Scalar.select (IntOp.cmpi .slt (ids ι) 0#32) _ (ids ι) = _
    exact Routing.wrap_of_lt _ _ (by omega)
  rw [e, toInt_small _ (by omega)]

/-- Update `(b, s, k)` lands at `(b', s', c)` exactly when it is of that sentence and word and its character is `c`. -/
theorem lands_words (h : ∀ ι, (ids ι).toNat < 128) (b b' : Fin 64) (s s' : Fin 256) (k : Fin 16) (c : Fin 128) :
    scat.resultIdx? (ix3 b s k) (indexWords ids) = some (ix3 b' s' c) ↔ b = b' ∧ s = s' ∧ (ids (ix3 b s k)).toNat = c.val := by
  rw [lands, indexWords_0, indexWords_1, indexWords_2, sentWords_val, posWords_val, charWords_val _ _ (h _)]
  constructor
  · rintro ⟨h0, h1, h2⟩; exact ⟨Fin.ext (by omega), Fin.ext (by omega), by omega⟩
  · rintro ⟨rfl, rfl, h2⟩; exact ⟨rfl, rfl, by omega⟩

/-! ## The two sums -/

/-- Adding, in order, the terms that satisfy a condition is adding their sum. -/
theorem foldl_if_add {n : ℕ} (p : Fin n → Prop) [DecidablePred p] (f : Fin n → EReal) (z : EReal) :
    (List.finRange n).foldl (fun y k => if p k then y + f k else y) z = z + ∑ k ∈ Finset.univ.filter p, f k := by
  rw [Finset.sum_filter, Fin.sum_univ_def]
  generalize List.finRange n = L
  induction L generalizing z with
  | nil => simp
  | cons k L ih =>
    rw [List.foldl_cons, ih, List.map_cons, List.sum_cons]
    by_cases h : p k
    · rw [if_pos h, if_pos h, add_assoc]
    · rw [if_neg h, if_neg h, zero_add]

variable (p : FVec Ideal S16 .f32)

/-- The reference's result from the words and the powers. -/
abbrev scattered : FVec Ideal S64x256x128 .f32 :=
  Host.scatterAdd scat (broadcastInDim S64x256x128 ![] bcast_S_S64x256x128 (constant S_ .f32 0x00000000#32)) (indexWords ids)
    (broadcastInDim S64x256x16 ![2] bcast_S16_S64x256x16_2 p)

/-- The reference's result at sentence `b`, word `s`, character `c` is that word's vector at the character. -/
theorem scattered_apply (h : ∀ ι, (ids ι).toNat < 128) (b : Fin 64) (s : Fin 256) (c : Fin 128) :
    scattered ids p (ix3 b s c) = wordRow (F := Ideal) p (fun l => ids (ix3 b s (l 0))) c.val := by
  have e : wordRow (F := Ideal) p (fun l => ids (ix3 b s (l 0))) c.val
      = (Scalar.ofBits (F := Ideal) .f32 0x00000000#32 : EReal)
        + ∑ k ∈ Finset.univ.filter (fun k : Fin 16 => (ids (ix3 b s k)).toNat = c.val), (show EReal from p (lane k)) :=
    foldl_if_add (fun k : Fin 16 => (ids (ix3 b s k)).toNat = c.val) (fun k => p (lane k)) _
  rw [e]
  show (Scalar.ofBits (F := Ideal) .f32 0x00000000#32 : EReal)
      + ∑ u ∈ Finset.univ.filter (fun u => scat.resultIdx? u (indexWords ids) = some (ix3 b s c)),
          (show EReal from broadcastInDim S64x256x16 ![2] bcast_S16_S64x256x16_2 p u) = _
  congr 1
  refine Finset.sum_bij' (fun u _ => u 2) (fun k _ => ix3 b s k) ?_ ?_ ?_ ?_ ?_
  · intro u hu
    have hu' := (Finset.mem_filter.mp hu).2
    rw [eq_ix3 u] at hu'
    obtain ⟨h0, h1, h2⟩ := (lands_words ids h _ _ _ _ _ _).mp hu'
    rw [h0, h1] at h2
    exact Finset.mem_filter.mpr ⟨Finset.mem_univ _, h2⟩
  · intro k hk
    exact Finset.mem_filter.mpr ⟨Finset.mem_univ _, (lands_words ids h _ _ _ _ _ _).mpr ⟨rfl, rfl, (Finset.mem_filter.mp hk).2⟩⟩
  · intro u hu
    have hu' := (Finset.mem_filter.mp hu).2
    rw [eq_ix3 u] at hu'
    obtain ⟨h0, h1, -⟩ := (lands_words ids h _ _ _ _ _ _).mp hu'
    exact (congrArg₂ (fun x y => ix3 x y (u 2)) h0.symm h1.symm).trans (eq_ix3 u).symm
  · intro k _; rfl
  · intro u _
    exact broadcastInDim_apply _ _ p u (lane (u 2)) fun a => by fin_cases a; rfl

end Cert.Proof.Fofe

end
-- ==== Proof.Claims.lean ====
/-
  The claims: the frames of the kernel at both kinds of floats and of the reference, and the kernel's results equal to
  the reference's at the exact floats.
-/
module

public import proofs.«01_k».proof.Proof.Value
public import proofs.«01_k».proof.Proof.Gen.Kernel
public import proofs.«01_k».proof.Proof.Gen.Pre_chars
public import Idealize.ShloMosaic.Lib.Quiescent

@[expose] public section

noncomputable section

namespace Cert.Proof.Fofe

open Idealize.ShloMosaic Idealize.ShloMosaic.ValueIdx Idealize.SL.Sem
open Cert.KernelIdeal Cert.KernelIdeal.Gen

/-! ## What the precondition says -/

/-- The precondition, at any floats: every character of every word is below 128. -/
theorem chars_lt {F : FTy → Type} [FloatOps F] (x : IVec S64x256x16 32) (y : IVec S64 32) (z : FVec F S1 .f32)
    (h : Cert.Pre_chars.fn (F := F) x y z = fun _ => 1#1) (ι : S64x256x16.Idx) : (x ι).toNat < 128 := by
  have e := congrFun h ix0
  unfold Cert.Pre_chars.fn at e
  haveI : Subsingleton Cert.Pre_chars.S_.Idx := ⟨fun a b => (eq_ix0 a).trans (eq_ix0 b).symm⟩
  have e1 := Host.reduce_andi_all _ _ _ _ _ e ι
  have e2 : IntOp.andi (IntOp.cmpi .sge (x ι) 0#32) (IntOp.cmpi .slt (x ι) 128#32) = 1#1 := e1
  obtain ⟨h0, h1⟩ := IntOp.andi_eq_one.mp e2
  have h0' := IntOp.cmpi_sge.mp h0
  have h1' := IntOp.cmpi_slt.mp h1
  rw [show (0#32 : BitVec 32).toInt = 0 by decide] at h0'
  rw [show (128#32 : BitVec 32).toInt = 128 by decide] at h1'
  have e3 := BitVec.toInt_eq_toNat_cond (x ι)
  have := (x ι).isLt
  split at e3 <;> omega

/-- Then the call's words are as it needs them. -/
theorem args_ok {F : FTy → Type} [FloatOps F] (m : (ℓ : Loc nD τ sig) → Buf (Elt F) ℓ)
    (h : ∀ c : Dev nD, Cert.Pre_chars.fn (F := F) (m ((c.tc : Thread nD τ).loc main_arg0)) (m ((c.tc : Thread nD τ).loc main_arg1))
      (m ((c.tc : Thread nD τ).loc main_arg2)) = fun _ => 1#1) : (args m).OK := fun d _ =>
  chars_lt _ _ _ (h d) _

/-! ## The frames -/

theorem frame_kernelIdeal : Cert.quiescent_KernelIdeal := fun m g h =>
  (θ_run Cert.KernelIdeal.defs _ _).mono (fun _ h => ⟨fun c => (h.1 c).2, h.2⟩) (run_main (F := Ideal) m g (args_ok m h))

theorem frame_kernel : Cert.quiescent_Kernel := fun m g h =>
  (θ_run Cert.KernelIdeal.defs _ _).mono (fun _ h => ⟨fun c => (h.1 c).2, h.2⟩) (run_main (F := Bits) m g (args_ok m h))

theorem frame_reference : Cert.quiescent_ReferenceIdeal := fun m g _ =>
  (θ_run Cert.ReferenceIdeal.defs _ _).mono (fun r h => ⟨fun c => (h c).2.2, sem_eq_zero_of_no_sems rfl r.2⟩)
    (Cert.ReferenceIdeal.Value.run (F := Ideal) m g)

/-! ## The value -/

/-- The kernel's result is the reference's, of the same words and powers. -/
theorem result_eq (m : (ℓ : Loc nD τ sig) → Buf (Elt Ideal) ℓ) (hA : (args m).OK) (c : Dev nD)
    (h : ∀ ι, (show BitVec 32 from m ((c.tc : Thread nD τ).loc main_arg0) ι).toNat < 128) :
    result m c = scattered (m ((c.tc : Thread nD τ).loc main_arg0)) (powers (m ((c.tc : Thread nD τ).loc main_arg2))) := by
  funext j
  rw [show j = ix3 (j 0) (j 1) (j 2) from eq_ix3 j]
  obtain ⟨b, hb⟩ : ∃ b : Fin 64, b = j 0 := ⟨_, rfl⟩
  obtain ⟨s, hs⟩ : ∃ s : Fin 256, s = j 1 := ⟨_, rfl⟩
  obtain ⟨k, hk⟩ : ∃ k : Fin 128, k = j 2 := ⟨_, rfl⟩
  rw [← hb, ← hs, ← hk]
  refine Eq.trans ?_ (scattered_apply _ _ h b s k).symm
  have hr : b.val * 256 + s.val < 16384 := by omega
  refine (shapeCast_apply (s := S16384x128) (t := S64x256x128) ((args m).new c) shapeCasts_S16384x128_S64x256x128 (ix3 b s k)
    (ix2 ⟨b.val * 256 + s.val, hr⟩ k) ?_).trans ?_
  · rw [Shape.rowMajor_val_two, Shape.rowMajor_val_three]; rfl
  · show wordRow (F := Ideal) (powers (m ((c.tc : Thread nD τ).loc main_arg2)))
        (rowOf (n := 16384) ((args m).ids c) ⟨b.val * 256 + s.val, hr⟩) k.val = _
    congr 1
    funext l
    refine shapeCast_apply (s := S64x256x16) (t := S16384x16) (m ((c.tc : Thread nD τ).loc main_arg0)) shapeCasts_S64x256x16_S16384x16
      (ix2 ⟨b.val * 256 + s.val, hr⟩ (l 0)) (ix3 b s (l 0)) ?_
    rw [Shape.rowMajor_val_two, Shape.rowMajor_val_three]; rfl

theorem value : Cert.algebraic_KernelIdeal_ReferenceIdeal := by
  intro m g m' g' h hm
  have hA := args_ok m h
  refine ⟨result m, fun c => m ((c.tc : Thread nD τ).loc main_arg1), ?_, ?_⟩
  · exact (θ_run Cert.KernelIdeal.defs _ _).mono (fun r hr c => ⟨(hr.1 c).1, (hr.1 c).2.2.1, (hr.1 c).2⟩) (run_main (F := Ideal) m g hA)
  · refine (θ_run Cert.ReferenceIdeal.defs _ _).mono (fun r hr c => ⟨(hr c).1.trans ?_, (hr c).2.1.trans (hm c).2.1, (hr c).2.2⟩)
      (Cert.ReferenceIdeal.Value.run (F := Ideal) m' g')
    refine Eq.trans ?_ (result_eq m hA c (chars_lt _ _ _ (h c))).symm
    rw [(hm c).1, (hm c).2.2]
    rfl

end Cert.Proof.Fofe

end
-- ==== Proof.lean ====
module

public import proofs.«01_k».proof.Defs
public import proofs.«01_k».proof.Proof.Gen.ReferenceIdeal.Run
public import proofs.«01_k».proof.Proof.Claims
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_chars
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_chars.Gen.facts,
  Fofe.frame_kernel, Fofe.frame_kernelIdeal, Fofe.frame_reference, trivial, Fofe.value⟩

end Cert.Proof

end
